-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_cst_3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x2048 : Shape := ⟨3, ![4, 4096, 2048]⟩
abbrev S64x2048 : Shape := ⟨2, ![64, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S4x4096x2048 .f32) (main_arg1 : FVec F S64x2048 .f32) : IVec S_ 1 × IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  (main_v3, main_v7)
-- ==== Kernel.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x8 : Shape := ⟨2, ![16384, 8]⟩
abbrev S2048x1024 : Shape := ⟨2, ![2048, 1024]⟩
abbrev S1024x64 : Shape := ⟨2, ![1024, 64]⟩
abbrev S2048x8 : Shape := ⟨2, ![2048, 8]⟩
abbrev S2048 : Shape := ⟨1, ![2048]⟩
abbrev S2048x1 : Shape := ⟨2, ![2048, 1]⟩
abbrev S_ : Shape := ⟨0, ![]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x8, .i32⟩
  | .hbm, ⟨5, _⟩ => ⟨S16384x8, .f32⟩
  | .hbm, ⟨6, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x64, .f32⟩
  | .local _ .vmem, ⟨5, _⟩ => ⟨S1024x64, .f32⟩
  | .local _ .vmem, ⟨6, _⟩ => ⟨S2048x8, .i32⟩
  | .local _ .vmem, ⟨7, _⟩ => ⟨S2048x8, .i32⟩
  | .local _ .vmem, ⟨8, _⟩ => ⟨S2048x8, .f32⟩
  | .local _ .vmem, ⟨9, _⟩ => ⟨S2048x8, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x4096x2048 : Shape := ⟨3, ![4, 4096, 2048]⟩
abbrev S64x2048 : Shape := ⟨2, ![64, 2048]⟩
abbrev S16384x2048 : Shape := ⟨2, ![16384, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x8 : Shape := ⟨2, ![16384, 8]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S16384x2048, .f32⟩
  | .hbm, ⟨3, _⟩ => ⟨S2048x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x8, .f32⟩
  | .hbm, ⟨20, _⟩ => ⟨S16384x8, .i32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S16384x8, .f32⟩
  | .hbm, ⟨25, _⟩ => ⟨S16384x8, .f32⟩
  | .hbm, ⟨26, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩

abbrev nD : Nat := 1
abbrev τ : Topo := Topo.v7x

variable {F : FTy → Type} [FloatOps F]
-- ==== Proof.Order.lean ====
/-
  The order in which the experts of one row are chosen, as plain mathematics on a row of extended reals.

  `order l` lists the positions of the row `l` from the largest entry to the smallest, an earlier position first where
  two entries are equal: it is what a stable descending sort does to the positions. `left l t` is the row with its `t`
  first choices struck out (set to minus infinity). The lemmas say that, on a row with no entry at minus infinity,
  one round of "take the maximum, take the first position that has it, strike that position out" leads from
  `left l t` to `left l (t + 1)` and finds `order l t`.
-/
module

public import Idealize.ShloMosaic.Lib.SortFacts
public import Mathlib.Data.EReal.Basic
public import Mathlib.Data.Finset.Fold

@[expose] public section

namespace Cert.TopRank

open Idealize.ShloMosaic

variable {n : Nat}

/-- Position `a` holds a larger entry than position `b`. -/
noncomputable def larger (l : Fin n → EReal) (a b : Fin n) : Bool := decide (l b < l a)

/-- Position `a` is chosen before position `b`: its entry is larger, or the two are equal and `a` comes first. -/
noncomputable def chosenBefore (l : Fin n → EReal) (a b : Fin n) : Bool := decide (l b < l a ∨ (l a = l b ∧ a < b))

/-- The positions of a row in the order in which a stable descending sort puts them. -/
noncomputable def order (l : Fin n → EReal) : Fin n → Fin n := sortedFrom (larger l)

/-- On a list of increasing positions the sort asks only whether a later position is strictly larger than an earlier
    one, and there the two comparisons agree. -/
theorem stableSort_larger (l : Fin n → EReal) (L : List (Fin n)) (hL : L.Pairwise (· < ·)) :
    stableSort (larger l) L = stableSort (chosenBefore l) L := by
  induction L with
  | nil => rfl
  | cons a L ih =>
    rw [List.pairwise_cons] at hL
    unfold stableSort
    rw [ih hL.2]
    refine insertBefore_congr _ _ a _ fun b hb => ?_
    have hab : a < b := hL.1 b ((perm_stableSort _ L).mem_iff.mp hb)
    unfold larger chosenBefore
    refine decide_eq_decide.mpr ⟨Or.inl, ?_⟩
    rintro (h | h)
    · exact h
    · exact absurd h.2 (not_lt.mpr hab.le)

theorem order_eq (l : Fin n → EReal) : order l = sortedFrom (chosenBefore l) := by
  funext k
  unfold order sortedFrom
  rw [List.get_of_eq (show sortPositions n (larger l) = sortPositions n (chosenBefore l) from
    stableSort_larger l _ (List.pairwise_lt_finRange n))]
  rfl

/-- A row whose entries compare alike is chosen in the same order. -/
theorem order_congr (l l' : Fin n → EReal) (h : ∀ a b, l b < l a ↔ l' b < l' a) : order l = order l' := by
  unfold order
  refine congrArg _ (funext fun a => funext fun b => ?_)
  exact decide_eq_decide.mpr (h a b)

theorem order_injective (l : Fin n → EReal) : Function.Injective (order l) := sortedFrom_injective _

theorem order_surjective (l : Fin n → EReal) : Function.Surjective (order l) := sortedFrom_surjective _

/-- An earlier choice is not chosen after a later one. -/
theorem order_noInversion (l : Fin n → EReal) (i j : Fin n) (hij : i < j) :
    chosenBefore l (order l j) (order l i) = false := by
  rw [order_eq]
  refine sortedFrom_noInversion (chosenBefore l) (chosenBefore l) ?_ (fun _ _ h => h) ?_ i j hij
  · intro a b h
    unfold chosenBefore at h ⊢
    rw [decide_eq_true_eq] at h
    rw [decide_eq_false_iff_not]
    rintro (h' | h')
    · rcases h with h | h
      · exact lt_asymm h h'
      · exact absurd h.1 h'.ne
    · rcases h with h | h
      · exact absurd h'.1 h.ne
      · exact lt_asymm h.2 h'.2
  · intro a b c hab hbc
    unfold chosenBefore at hab hbc ⊢
    rw [decide_eq_false_iff_not] at hab hbc ⊢
    push Not at hab hbc ⊢
    refine ⟨hab.1.trans hbc.1, fun hac => ?_⟩
    have e : l a = l b := le_antisymm hab.1 (hac ▸ hbc.1)
    exact (hbc.2 (e ▸ hac)).trans (hab.2 e)

/-- A position not among the first `t` choices holds no larger entry than the `t`-th choice, and comes no earlier where
    it holds the same. -/
theorem order_best (l : Fin n → EReal) (t : Fin n) (j : Fin n) (hj : ∀ s : Fin n, s < t → order l s ≠ j) :
    l j ≤ l (order l t) ∧ (l j = l (order l t) → order l t ≤ j) := by
  obtain ⟨u, rfl⟩ := order_surjective l j
  rcases lt_trichotomy u t with h | rfl | h
  · exact absurd rfl (hj u h)
  · exact ⟨le_rfl, fun _ => le_rfl⟩
  · have := order_noInversion l t u h
    unfold chosenBefore at this
    rw [decide_eq_false_iff_not] at this
    push Not at this
    exact ⟨this.1, this.2⟩

/-- The row after its first `t` choices were struck out. -/
noncomputable def left (l : Fin n → EReal) (t : Nat) (j : Fin n) : EReal :=
  open Classical in if ∃ s : Fin n, s.val < t ∧ order l s = j then ⊥ else l j

theorem left_zero (l : Fin n → EReal) : left l 0 = l := by
  funext j
  unfold left
  exact if_neg (by rintro ⟨s, h, _⟩; omega)

theorem left_order (l : Fin n → EReal) (t : Fin n) : left l t (order l t) = l (order l t) := by
  unfold left
  refine if_neg ?_
  rintro ⟨s, h, e⟩
  exact absurd (order_injective l e) (Fin.ne_of_lt h)

theorem left_le (l : Fin n → EReal) (t : Fin n) (j : Fin n) : left l t j ≤ l (order l t) := by
  unfold left
  split
  · exact bot_le
  · rename_i h
    exact (order_best l t j fun s hs e => h ⟨s, hs, e⟩).1

theorem left_step (l : Fin n → EReal) (t : Fin n) (j : Fin n) :
    left l (t + 1) j = if j = order l t then ⊥ else left l t j := by
  unfold left
  by_cases hj : j = order l t
  · rw [if_pos hj]
    exact if_pos ⟨t, Nat.lt_succ_self _, hj.symm⟩
  · rw [if_neg hj]
    refine if_congr (exists_congr fun s => and_congr_left fun e => ⟨fun h => ?_, fun h => ?_⟩) rfl rfl
    · rcases Nat.lt_succ_iff_lt_or_eq.mp h with h | h
      · exact h
      · exact absurd (by rw [← e, Fin.ext h]) hj
    · exact Nat.lt_succ_of_lt h

/-- A maximum over a row that is attained at `k`. -/
theorem fold_max_eq (w : Fin n → EReal) (k : Fin n) (h : ∀ j, w j ≤ w k) :
    Finset.univ.fold max ⊥ w = w k :=
  le_antisymm (Finset.fold_max_le _ |>.mpr ⟨bot_le, fun j _ => h j⟩)
    (Finset.le_fold_max _ |>.mpr (Or.inr ⟨k, Finset.mem_univ k, le_rfl⟩))

/-- A minimum over a row that is attained at `k`. -/
theorem fold_min_eq (w : Fin n → EReal) (k : Fin n) (h : ∀ j, w k ≤ w j) :
    Finset.univ.fold min ⊤ w = w k :=
  le_antisymm (Finset.fold_min_le _ |>.mpr (Or.inr ⟨k, Finset.mem_univ k, le_rfl⟩))
    (Finset.le_fold_min _ |>.mpr ⟨le_top, fun j _ => h j⟩)

/-- The maximum of what is left is the entry chosen next. -/
theorem max_left (l : Fin n → EReal) (t : Fin n) :
    Finset.univ.fold max ⊥ (left l t) = l (order l t) := by
  rw [fold_max_eq _ (order l t) (fun j => by rw [left_order]; exact left_le l t j), left_order]

/-- The position of an expert as an extended real. -/
noncomputable def pos (j : Fin n) : EReal := ((j.val : ℝ) : EReal)

theorem pos_le_pos (i j : Fin n) : pos i ≤ pos j ↔ i ≤ j := by
  unfold pos
  rw [EReal.coe_le_coe_iff, Nat.cast_le]
  exact Iff.rfl

theorem pos_inj (i j : Fin n) : pos i = pos j ↔ i = j :=
  ⟨fun h => le_antisymm ((pos_le_pos i j).mp h.le) ((pos_le_pos j i).mp h.ge), fun h => h ▸ rfl⟩

theorem pos_le (j : Fin n) : pos j ≤ ((n : ℝ) : EReal) := by
  unfold pos
  rw [EReal.coe_le_coe_iff, Nat.cast_le]
  exact j.isLt.le

/-- The first position that holds the maximum of what is left is the position chosen next. -/
theorem first_left (l : Fin n → EReal) (hl : ∀ j, l j ≠ ⊥) (t : Fin n) :
    Finset.univ.fold min ⊤ (fun j => if left l t j = l (order l t) then pos j else ((n : ℝ) : EReal))
      = pos (order l t) := by
  have e := fold_min_eq (fun j => if left l t j = l (order l t) then pos j else ((n : ℝ) : EReal)) (order l t) ?_
  · rw [e]
    exact if_pos (left_order l t)
  · intro j
    show (if _ then _ else _) ≤ _
    rw [if_pos (left_order l t)]
    split
    · rename_i h
      rw [pos_le_pos]
      unfold left at h
      split at h
      · exact absurd h.symm (hl _)
      · rename_i hs
        exact (order_best l t j fun s hs' e => hs ⟨s, hs', e⟩).2 h
    · exact pos_le _

end Cert.TopRank

end
-- ==== Proof.Rounds.lean ====
/-
  One round of the kernel's selection, read at an index.

  The kernel keeps a (2048, 64) array of what is left of each row's logits and, eight times, takes each row's maximum
  (`roundMax`), the first lane that holds it (`roundFirst`) and the array with that lane struck out (`roundNext`).
  The lemmas read each of the three at a row and lane, and `rounds` follows a row through all the rounds: after `t` of them
  row `r` holds `left l t`, `l` the row's logits.
-/
module

public import proofs.«01_k».proof.Proof.Gen.KernelIdeal.Skeleton
public import proofs.«01_k».proof.Proof.Order
public import Idealize.ShloMosaic.Lib.Pointwise

@[expose] public section

set_option maxRecDepth 16384

noncomputable section

namespace Cert.KernelIdeal.Rounds

open Cert.KernelIdeal Cert.KernelIdeal.Gen Idealize.ShloMosaic Cert.TopRank

/-! ## The constants -/

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

theorem ofBits_sixty_four : Ideal.ofBits .f32 0x42800000#32 = ((64 : ℝ) : EReal) := by
  simp [Ideal.ofBits, Ideal.ieee, -EReal.coe_mul]
  norm_num

/-! ## One round -/

/-- Each row's maximum, as a column. -/
def roundMax (x : FVec Ideal S2048x64 .f32) : FVec Ideal S2048x1 .f32 := k0_pay1 x

/-- Each row's first lane (by the lane numbers `n`) that holds the row's maximum, as a column. -/
def roundFirst (n x : FVec Ideal S2048x64 .f32) : FVec Ideal S2048x1 .f32 := k0_pay2 n x

/-- The array with each row's chosen lane at minus infinity. -/
def roundNext (n x : FVec Ideal S2048x64 .f32) : FVec Ideal S2048x64 .f32 := k0_pay3 n x

theorem roundMax_apply (x : FVec Ideal S2048x64 .f32) (r : Fin 2048) :
    roundMax x (ix2 r 0) = Finset.univ.fold max ⊥ fun j : Fin 64 => x (ix2 r j) := by
  pointwise [roundMax, k0_pay1]
  rw [ofBits_neg_inf]

theorem roundFirst_apply (n x : FVec Ideal S2048x64 .f32) (r : Fin 2048) :
    roundFirst n x (ix2 r 0) = Finset.univ.fold min ⊤ fun j : Fin 64 =>
      if x (ix2 r j) = roundMax x (ix2 r 0) then n (ix2 r j) else ((64 : ℝ) : EReal) := by
  pointwise [roundFirst, k0_pay2]
  rw [ofBits_inf, ofBits_sixty_four]
  rfl

theorem roundNext_apply (n x : FVec Ideal S2048x64 .f32) (r : Fin 2048) (j : Fin 64) :
    roundNext n x (ix2 r j) = if n (ix2 r j) = roundFirst n x (ix2 r 0) then ⊥ else x (ix2 r j) := by
  pointwise [roundNext, k0_pay3]
  rw [ofBits_neg_inf]
  rfl

/-- The lane numbers. -/
theorem lanes_apply (r : Fin 2048) (j : Fin 64) : (k0_pay8 (F := Ideal)) (ix2 r j) = pos j := by
  pointwise [k0_pay8]
  show (((BitVec.ofNat 32 j.val).toInt : ℝ) : EReal) = ((j.val : ℝ) : EReal)
  have h : (BitVec.ofNat 32 j.val).toInt = (j.val : Int) := by
    have hj := j.isLt
    simp only [BitVec.toInt_eq_toNat_bmod, BitVec.toNat_ofNat]
    rw [Nat.mod_eq_of_lt (by omega)]
    exact Int.bmod_eq_of_le (by omega) (by omega)
  rw [h]
  norm_cast

/-! ## Eight rounds -/

/-- What is left of the logits `x` after `t` rounds. -/
def roundLeft (x : FVec Ideal S2048x64 .f32) : Nat → FVec Ideal S2048x64 .f32
  | 0 => x
  | t + 1 => roundNext k0_pay8 (roundLeft x t)

/-- A row of the logits. -/
def row (x : FVec Ideal S2048x64 .f32) (r : Fin 2048) (j : Fin 64) : EReal := x (ix2 r j)

/-- One round on a row with `t` of its choices struck out: the maximum and its lane are the next choice's, and the round
    strikes that choice out. -/
theorem round (l : Fin 64 → EReal) (hl : ∀ j, l j ≠ ⊥) (t : Fin 64) (x : FVec Ideal S2048x64 .f32) (r : Fin 2048)
    (hx : row x r = left l t) :
    roundMax x (ix2 r 0) = l (order l t) ∧ roundFirst k0_pay8 x (ix2 r 0) = pos (order l t)
      ∧ row (roundNext k0_pay8 x) r = left l (t + 1) := by
  have hx' (j : Fin 64) : x (ix2 r j) = left l t j := congrFun hx j
  have h1 : roundMax x (ix2 r 0) = l (order l t) := by
    rw [roundMax_apply]
    simp only [hx']
    exact max_left l t
  have h2 : roundFirst k0_pay8 x (ix2 r 0) = pos (order l t) := by
    rw [roundFirst_apply]
    simp only [hx', h1, lanes_apply]
    exact first_left l hl t
  refine ⟨h1, h2, funext fun j => ?_⟩
  unfold row
  rw [roundNext_apply, h2, lanes_apply, hx', left_step]
  exact if_congr (pos_inj _ _) rfl rfl

/-- A row after `t` rounds: its first `t` choices struck out. -/
theorem row_roundLeft (x : FVec Ideal S2048x64 .f32) (r : Fin 2048) (hl : ∀ j, row x r j ≠ ⊥) (t : Nat) (ht : t ≤ 64) :
    row (roundLeft x t) r = left (row x r) t := by
  induction t with
  | zero => exact (left_zero _).symm
  | succ t ih => exact (round (row x r) hl ⟨t, ht⟩ (roundLeft x t) r (ih (Nat.le_of_lt ht))).2.2

/-- The `t`-th round's maximum is the `t`-th choice's logit. -/
theorem roundMax_left (x : FVec Ideal S2048x64 .f32) (r : Fin 2048) (hl : ∀ j, row x r j ≠ ⊥) (t : Fin 64) :
    roundMax (roundLeft x t) (ix2 r 0) = row x r (order (row x r) t) :=
  (round (row x r) hl t _ r (row_roundLeft x r hl t t.isLt.le)).1

/-- The `t`-th round's lane is the `t`-th choice. -/
theorem roundFirst_left (x : FVec Ideal S2048x64 .f32) (r : Fin 2048) (hl : ∀ j, row x r j ≠ ⊥) (t : Fin 64) :
    roundFirst k0_pay8 (roundLeft x t) (ix2 r 0) = pos (order (row x r) t) :=
  (round (row x r) hl t _ r (row_roundLeft x r hl t t.isLt.le)).2.1

end Cert.KernelIdeal.Rounds

end
-- ==== Proof.Block.lean ====
/-
  What the kernel leaves in its two output blocks at a grid point, read at a row and a column.

  Of the block's logits (`logits`, the sum of the two half products) the columns of the index block are the positions of the
  row's first eight choices, and the columns of the weight block are the exponentials of their logits less the first's,
  over their sum.
-/
module

public import proofs.«01_k».proof.Proof.Gen.KernelIdeal.Frame
public import proofs.«01_k».proof.Proof.Rounds
public import Idealize.ShloMosaic.Lib.Pipeline.ValueKit

@[expose] public section

set_option maxRecDepth 16384

noncomputable section

namespace Cert.KernelIdeal.Block

open Cert.KernelIdeal Cert.KernelIdeal.Gen Idealize.ShloMosaic Cert.TopRank Cert.KernelIdeal.Rounds

/-- The logits of a block of rows, from the two halves of the activations and of the weights. -/
def logits (x0 x1 : FVec Ideal S2048x1024 .f32) (x2 x3 : FVec Ideal S1024x64 .f32) : FVec Ideal S2048x64 .f32 :=
  k0_pay7 x0 x2 x1 x3

theorem logits_apply (x0 x1 : FVec Ideal S2048x1024 .f32) (x2 x3 : FVec Ideal S1024x64 .f32) (r : Fin 2048) (j : Fin 64) :
    logits x0 x1 x2 x3 (ix2 r j)
      = (∑ k : Fin 1024, x0 (ix2 r k) * x2 (ix2 k j)) + ∑ k : Fin 1024, x1 (ix2 r k) * x3 (ix2 k j) := by
  pointwise [logits, k0_pay7]

/-- Eight columns side by side, read at a row and a column. -/
theorem columns_apply (a : Fin 8 → FVec Ideal S2048x1 .f32) (h) (r : Fin 2048) (k : Fin 8) :
    concatenate S2048x8 1 [⟨S2048x1, a 0⟩, ⟨S2048x1, a 1⟩, ⟨S2048x1, a 2⟩, ⟨S2048x1, a 3⟩, ⟨S2048x1, a 4⟩, ⟨S2048x1, a 5⟩,
      ⟨S2048x1, a 6⟩, ⟨S2048x1, a 7⟩] h (ix2 r k) = a k (ix2 r 0) := by
  fin_cases k <;> pointwise []

/-- The weights of a block of rows. -/
def weights (x : FVec Ideal S2048x64 .f32) : FVec Ideal S2048x8 .f32 :=
  k0_pay5 k0_pay8 (roundMax (roundLeft x 0)) (roundMax (roundLeft x 1)) (roundMax (roundLeft x 2)) (roundMax (roundLeft x 3))
    (roundMax (roundLeft x 4)) (roundMax (roundLeft x 5)) (roundLeft x 6)

/-- The indices of a block of rows. -/
def indices (x : FVec Ideal S2048x64 .f32) : IVec S2048x8 32 :=
  k0_pay6 k0_pay8 (roundFirst k0_pay8 (roundLeft x 0)) (roundFirst k0_pay8 (roundLeft x 1)) (roundFirst k0_pay8 (roundLeft x 2))
    (roundFirst k0_pay8 (roundLeft x 3)) (roundFirst k0_pay8 (roundLeft x 4)) (roundFirst k0_pay8 (roundLeft x 5)) (roundLeft x 6)

/-- The `k`-th of a row's eight choices. -/
def choice (l : Fin 64 → EReal) (k : Fin 8) : Fin 64 := order l ⟨k, by omega⟩

theorem weights_apply (x : FVec Ideal S2048x64 .f32) (r : Fin 2048) (hl : ∀ j, row x r j ≠ ⊥) (k : Fin 8) :
    weights x (ix2 r k)
      = Ideal.div (Ideal.exp (row x r (choice (row x r) k) - row x r (choice (row x r) 0)))
          (∑ s : Fin 8, Ideal.exp (row x r (choice (row x r) s) - row x r (choice (row x r) 0))) := by
  have h (s : Fin 8) : roundMax (roundLeft x s) (ix2 r 0) = row x r (choice (row x r) s) :=
    roundMax_left x r hl ⟨s, by omega⟩
  have e : weights x (ix2 r k)
      = Ideal.div (Ideal.exp (roundMax (roundLeft x k) (ix2 r 0) - roundMax (roundLeft x 0) (ix2 r 0)))
          (∑ s : Fin 8, Ideal.exp (roundMax (roundLeft x s) (ix2 r 0) - roundMax (roundLeft x 0) (ix2 r 0))) := by
    have hc (s : Fin 8) := columns_apply (fun s => roundMax (roundLeft x s))
      concatenates_S2048x1_S2048x1_S2048x1_S2048x1_S2048x1_S2048x1_S2048x1_S2048x1_S2048x8_d1 r s
    simp only [← hc]
    pointwise [weights, k0_pay5]
    rfl
  rw [e]
  simp only [h]
  rw [show roundMax (roundLeft x 0) (ix2 r 0) = _ from h 0]

/-- A lane number converted to a word is that word. -/
theorem fptosi_pos (j : Fin 64) : Ideal.fptosi 32 (pos j) = BitVec.ofNat 32 j.val := by
  have hj : (j.val : Int) < 64 := by exact_mod_cast j.isLt
  have h0 : (0 : Int) ≤ (j.val : Int) := Int.natCast_nonneg _
  have hp : (((2 : Nat) ^ (32 - 1) : Nat) : Int) = 2147483648 := by decide +kernel
  unfold pos Ideal.fptosi
  rw [Ideal.toIntClamped_coe, if_pos (Nat.cast_nonneg _), Int.floor_natCast, hp]
  rw [min_eq_right (by omega), max_eq_right (by omega)]
  exact BitVec.ofInt_natCast ..

theorem indices_apply (x : FVec Ideal S2048x64 .f32) (r : Fin 2048) (hl : ∀ j, row x r j ≠ ⊥) (k : Fin 8) :
    indices x (ix2 r k) = BitVec.ofNat 32 (choice (row x r) k).val := by
  have h (s : Fin 8) : roundFirst k0_pay8 (roundLeft x s) (ix2 r 0) = pos (choice (row x r) s) :=
    roundFirst_left x r hl ⟨s, by omega⟩
  have e : indices x (ix2 r k) = Ideal.fptosi 32 (roundFirst k0_pay8 (roundLeft x k) (ix2 r 0)) :=
    congrArg (Ideal.fptosi 32) (columns_apply (fun s => roundFirst k0_pay8 (roundLeft x s))
      concatenates_S2048x1_S2048x1_S2048x1_S2048x1_S2048x1_S2048x1_S2048x1_S2048x1_S2048x8_d1 r k)
  rw [e, h]
  exact fptosi_pos _

theorem out0_4_eq (x0 x1 : FVec Ideal S2048x1024 .f32) (x2 x3 : FVec Ideal S1024x64 .f32) :
    out0_4 (F := Ideal) x0 x1 x2 x3 = indices (logits x0 x1 x2 x3) := by
  unfold_out out0_4
  frame_out
  rfl

theorem out0_5_eq (x0 x1 : FVec Ideal S2048x1024 .f32) (x2 x3 : FVec Ideal S1024x64 .f32) :
    out0_5 (F := Ideal) x0 x1 x2 x3 = weights (logits x0 x1 x2 x3) := by
  unfold_out out0_5
  frame_out
  rfl

end Cert.KernelIdeal.Block

end
-- ==== Proof.Reads.lean ====
/-
  What the kernel's blocks hold: each of the four input blocks at a grid point, read at an index, is an
  element of one of the two argument arrays; so the logits of a block are the rows of one product.
-/
module
public import proofs.«01_k».proof.Proof.Block
public import Idealize.ShloMosaic.Lib.Pipeline.ValueKit
public import Idealize.ShloMosaic.Lib.Pipeline.ValueKit.Point
@[expose] public section
set_option maxRecDepth 16384
noncomputable section
namespace Cert.KernelIdeal.Reads
open Cert.KernelIdeal Cert.KernelIdeal.Gen Idealize.ShloMosaic Idealize.ShloMosaic.TcCoe Idealize.SL.Sem
open Cert.KernelIdeal.Rounds Cert.KernelIdeal.Block

variable (m : (ℓ : Loc nD τ sig) → Buf (Elt Ideal) ℓ)

/-- The tokens, as the kernel's first argument array. -/
abbrev tokens (c : Dev nD) : FVec Ideal S4x4096x2048 .f32 := m ((c.tc : Thread nD τ).loc main_arg0)

/-- The gate's weights, as the kernel's second argument array. -/
abbrev gate (c : Dev nD) : FVec Ideal S64x2048 .f32 := m ((c.tc : Thread nD τ).loc main_arg1)

/-- Where every window stands at a grid point. -/
theorem idx : ∀ t : Fin cfg0.N, win0_0.index t = ![t.val, 0] ∧ win0_1.index t = ![t.val, 1]
    ∧ win0_2.index t = ![0, 0] ∧ win0_3.index t = ![1, 0]
    ∧ win0_4.index t = ![t.val, 0] ∧ win0_5.index t = ![t.val, 0] :=
  (by decide +kernel : ∀ t : Fin grid0.N, _)

theorem points : cfg0.N = 8 := by decide +kernel

theorem entry_v0 (c : Dev nD) :
    V m c main_v0 = shapeCast S16384x2048 (tokens m c) shapeCasts_S4x4096x2048_S16384x2048 := by
  entry_read; try rfl

theorem entry_v1 (c : Dev nD) :
    V m c main_v1 = transpose S2048x64 [1, 0] (gate m c) transposes_S64x2048_S2048x64_1_0 := by
  entry_read; try rfl

theorem tokens_low (c : Dev nD) (t : Fin cfg0.N) (r : Fin 2048) (k : Fin 1024) (h : 2048 * t.val + r.val < 16384) :
    (iblk m c 0 t : FVec Ideal S2048x1024 .f32) (ix2 r k)
      = tokens m c (ix3 ⟨(2048 * t.val + r.val) / 4096, by omega⟩ ⟨(2048 * t.val + r.val) % 4096, by omega⟩
          ⟨k.val, by omega⟩) := by
  show V m c main_v0 (((cfg0.win 0).blk t).view.emb _) = _
  rw [entry_v0]
  pointwise
  blk_ext [idx t]

theorem tokens_high (c : Dev nD) (t : Fin cfg0.N) (r : Fin 2048) (k : Fin 1024) (h : 2048 * t.val + r.val < 16384) :
    (iblk m c 1 t : FVec Ideal S2048x1024 .f32) (ix2 r k)
      = tokens m c (ix3 ⟨(2048 * t.val + r.val) / 4096, by omega⟩ ⟨(2048 * t.val + r.val) % 4096, by omega⟩
          ⟨1024 + k.val, by omega⟩) := by
  show V m c main_v0 (((cfg0.win 1).blk t).view.emb _) = _
  rw [entry_v0]
  pointwise
  blk_ext [idx t]

theorem gate_low (c : Dev nD) (t : Fin cfg0.N) (j : Fin 64) (k : Fin 1024) :
    (iblk m c 2 t : FVec Ideal S1024x64 .f32) (ix2 k j) = gate m c (ix2 j ⟨k.val, by omega⟩) := by
  show V m c main_v1 (((cfg0.win 2).blk t).view.emb _) = _
  rw [entry_v1]
  pointwise
  blk_ext [idx t]

theorem gate_high (c : Dev nD) (t : Fin cfg0.N) (j : Fin 64) (k : Fin 1024) :
    (iblk m c 3 t : FVec Ideal S1024x64 .f32) (ix2 k j) = gate m c (ix2 j ⟨1024 + k.val, by omega⟩) := by
  show V m c main_v1 (((cfg0.win 3).blk t).view.emb _) = _
  rw [entry_v1]
  pointwise
  blk_ext [idx t]

/-- The logits of one token: its inner products with the rows of the gate. -/
def tokenRow (x : FVec Ideal S4x4096x2048 .f32) (w : FVec Ideal S64x2048 .f32) (R : Fin 16384) (j : Fin 64) : EReal :=
  ∑ k : Fin 2048, x (ix3 ⟨R.val / 4096, by omega⟩ ⟨R.val % 4096, by omega⟩ k) * w (ix2 j k)

/-- A token's logits from the two halves of its features. -/
theorem row_of_halves (x0 x1 : FVec Ideal S2048x1024 .f32) (x2 x3 : FVec Ideal S1024x64 .f32)
    (x : FVec Ideal S4x4096x2048 .f32) (w : FVec Ideal S64x2048 .f32) (r : Fin 2048) (R : Fin 16384)
    (h0 : ∀ k : Fin 1024, x0 (ix2 r k)
      = x (ix3 ⟨R.val / 4096, by omega⟩ ⟨R.val % 4096, by omega⟩ ⟨k.val, by omega⟩))
    (h1 : ∀ k : Fin 1024, x1 (ix2 r k)
      = x (ix3 ⟨R.val / 4096, by omega⟩ ⟨R.val % 4096, by omega⟩ ⟨1024 + k.val, by omega⟩))
    (h2 : ∀ (j : Fin 64) (k : Fin 1024), x2 (ix2 k j) = w (ix2 j ⟨k.val, by omega⟩))
    (h3 : ∀ (j : Fin 64) (k : Fin 1024), x3 (ix2 k j) = w (ix2 j ⟨1024 + k.val, by omega⟩)) :
    row (logits x0 x1 x2 x3) r = tokenRow x w R := by
  funext j
  refine (logits_apply x0 x1 x2 x3 r j).trans ?_
  refine (congrArg₂ (· + ·)
    (Finset.sum_congr rfl fun k _ => congrArg₂ (· * ·) (h0 k) (h2 j k))
    (Finset.sum_congr rfl fun k _ => congrArg₂ (· * ·) (h1 k) (h3 j k))).trans ?_
  exact (Fin.sum_univ_two_halves 1024 1024 rfl fun k : Fin 2048 =>
    x (ix3 ⟨R.val / 4096, by omega⟩ ⟨R.val % 4096, by omega⟩ k) * w (ix2 j k)).symm

/-- The logits the body forms at a grid point are the logits of the tokens of that block. -/
theorem row_logits (c : Dev nD) (t : Fin cfg0.N) (r : Fin 2048) (h : 2048 * t.val + r.val < 16384) :
    row (logits (iblk m c 0 t) (iblk m c 1 t) (iblk m c 2 t) (iblk m c 3 t)) r
      = tokenRow (tokens m c) (gate m c) ⟨2048 * t.val + r.val, h⟩ :=
  row_of_halves (iblk m c 0 t) (iblk m c 1 t) (iblk m c 2 t) (iblk m c 3 t) (tokens m c) (gate m c) r
    ⟨2048 * t.val + r.val, h⟩ (fun k => tokens_low m c t r k h) (fun k => tokens_high m c t r k h)
    (fun j k => gate_low m c t j k) (fun j k => gate_high m c t j k)

end Cert.KernelIdeal.Reads
end
-- ==== Proof.KernelArray.lean ====
/-
  The kernel's two result arrays after the run, when no logit is minus infinity: at a token and a place, the index of
  the chosen expert and its weight.
-/
module
public import proofs.«01_k».proof.Proof.Reads
@[expose] public section
set_option maxRecDepth 16384
noncomputable section
namespace Cert.KernelIdeal.KernelArray
open Cert.KernelIdeal Cert.KernelIdeal.Gen Idealize.ShloMosaic Idealize.ShloMosaic.TcCoe Idealize.SL.Sem
open Cert.KernelIdeal.Rounds Cert.KernelIdeal.Block Cert.KernelIdeal.Reads
open Idealize.ShloMosaic.Pipeline (Dat)

/-- The expert of each token at each of its eight places. -/
def expertOf (l : Fin 16384 → Fin 64 → EReal) : IVec S16384x8 32 :=
  fun i => BitVec.ofNat 32 (choice (l (i 0)) (i 1)).val

/-- The weight of each token's expert at each of its eight places. -/
def weightOf (l : Fin 16384 → Fin 64 → EReal) : FVec Ideal S16384x8 .f32 := fun i =>
  Ideal.div (Ideal.exp (l (i 0) (choice (l (i 0)) (i 1)) - l (i 0) (choice (l (i 0)) 0)))
    (∑ s : Fin 8, Ideal.exp (l (i 0) (choice (l (i 0)) s) - l (i 0) (choice (l (i 0)) 0)))

variable (m : (ℓ : Loc nD τ sig) → Buf (Elt Ideal) ℓ)

/-- Where a place of an output block stands in its array. -/
theorem place4 (t : Fin cfg0.N) (r : Fin 2048) (k : Fin 8) (h : 2048 * t.val + r.val < 16384) :
    ((cfg0.win 4).blk t).view.emb (ix2 r k : S2048x8.Idx) = (ix2 ⟨2048 * t.val + r.val, h⟩ k : S16384x8.Idx) := by
  blk_ext [idx t]

theorem place5 (t : Fin cfg0.N) (r : Fin 2048) (k : Fin 8) (h : 2048 * t.val + r.val < 16384) :
    ((cfg0.win 5).blk t).view.emb (ix2 r k : S2048x8.Idx) = (ix2 ⟨2048 * t.val + r.val, h⟩ k : S16384x8.Idx) := by
  blk_ext [idx t]

theorem row_lt (t : Fin cfg0.N) (r : Fin 2048) : 2048 * t.val + r.val < 16384 := by
  have := t.isLt
  have := points
  omega

/-- A block of the kernel's index array. -/
theorem block4 (c : Dev nD) (t : Fin cfg0.N) (r : Fin 2048) (k : Fin 8)
    (hl : ∀ R j, tokenRow (tokens m c) (gate m c) R j ≠ ⊥) :
    (out0_4 (F := Ideal) (iblk m c 0 t) (iblk m c 1 t) (iblk m c 2 t) (iblk m c 3 t) : IVec S2048x8 32) (ix2 r k)
      = expertOf (tokenRow (tokens m c) (gate m c)) (ix2 ⟨2048 * t.val + r.val, row_lt t r⟩ k) := by
  have hrow := row_logits m c t r (row_lt t r)
  refine (congrFun (out0_4_eq _ _ _ _) _).trans ?_
  refine (indices_apply _ r (fun j => hrow ▸ hl _ j) k).trans ?_
  rw [hrow]; rfl

/-- A block of the kernel's weight array. -/
theorem block5 (c : Dev nD) (t : Fin cfg0.N) (r : Fin 2048) (k : Fin 8)
    (hl : ∀ R j, tokenRow (tokens m c) (gate m c) R j ≠ ⊥) :
    (out0_5 (F := Ideal) (iblk m c 0 t) (iblk m c 1 t) (iblk m c 2 t) (iblk m c 3 t) : FVec Ideal S2048x8 .f32) (ix2 r k)
      = weightOf (tokenRow (tokens m c) (gate m c)) (ix2 ⟨2048 * t.val + r.val, row_lt t r⟩ k) := by
  have hrow := row_logits m c t r (row_lt t r)
  refine (congrFun (out0_5_eq _ _ _ _) _).trans ?_
  refine (weights_apply _ r (fun j => hrow ▸ hl _ j) k).trans ?_
  rw [hrow]; rfl

/-- The kernel's index array. -/
theorem array4 (c : Dev nD) (hl : ∀ R j, tokenRow (tokens m c) (gate m c) R j ≠ ⊥) :
    (dats m 0 c).arrAt 4 cfg0.N = expertOf (tokenRow (tokens m c) (gate m c)) := by
  refine (dats m 0 c).arrAt_eq_of_covers 4 _ (by decide +kernel) fun t hf y => ?_
  blk_simp
  rw [after0_4]
  obtain ⟨r, k, rfl⟩ : ∃ (r : Fin 2048) (k : Fin 8), y = (ix2 r k : S2048x8.Idx) := ⟨y 0, y 1, eq_ix2 y⟩
  exact (block4 m c t r k hl).trans (congrArg _ (place4 t r k (row_lt t r)).symm)

/-- The kernel's weight array. -/
theorem array5 (c : Dev nD) (hl : ∀ R j, tokenRow (tokens m c) (gate m c) R j ≠ ⊥) :
    (dats m 0 c).arrAt 5 cfg0.N = weightOf (tokenRow (tokens m c) (gate m c)) := by
  refine (dats m 0 c).arrAt_eq_of_covers 5 _ (by decide +kernel) fun t hf y => ?_
  blk_simp
  rw [after0_5]
  obtain ⟨r, k, rfl⟩ : ∃ (r : Fin 2048) (k : Fin 8), y = (ix2 r k : S2048x8.Idx) := ⟨y 0, y 1, eq_ix2 y⟩
  exact (block5 m c t r k hl).trans (congrArg _ (place5 t r k (row_lt t r)).symm)

end Cert.KernelIdeal.KernelArray
end
-- ==== Proof.KernelRun.lean ====
/-
  The idealized kernel's run: what its three results hold at the end, and that its arguments are as launched.
-/
module
public import proofs.«01_k».proof.Proof.KernelArray
@[expose] public section
set_option maxRecDepth 16384
noncomputable section
namespace Cert.KernelIdeal.KernelRun
open Cert.KernelIdeal Cert.KernelIdeal.Gen Idealize.ShloMosaic Idealize.ShloMosaic.TcCoe Idealize.SL.Sem
open Cert.KernelIdeal.Reads Cert.KernelIdeal.KernelArray
open Idealize.ShloMosaic.Pipeline (Dat)

variable (m : (ℓ : Loc nD τ sig) → Buf (Elt Ideal) ℓ) (ρ : Dev nD → PrngReg)

/-- The scalar written after the pipeline. -/
theorem loss_after (c : Dev nD) :
    Pipeline.afterTail₀ cfgs (dats m) 0 (V0 m) [hostOps1] c main_cst = constant (F := Ideal) S_ .f32 0x00000000#32 := by
  unfold Pipeline.afterTail₀
  simp only [List.flatten_cons, List.flatten_nil, List.append_nil, StableHlo.after_cons, StableHlo.after_nil]
  exact StableHlo.nullary_result ..

/-- The run, when no logit is minus infinity. -/
theorem run (hl : ∀ c R j, tokenRow (tokens m c) (gate m c) R j ≠ ⊥) :
    θ_run defs (onTc (τ := τ) (main (F := Ideal))) ⟨m, fun _ => 0, ρ⟩ fun r => ∀ c : Dev nD,
      r.2.mem ((c.tc : Thread nD τ).loc main_v2_0) = expertOf (tokenRow (tokens m c) (gate m c))
      ∧ r.2.mem ((c.tc : Thread nD τ).loc main_v2_1) = weightOf (tokenRow (tokens m c) (gate m c))
      ∧ r.2.mem ((c.tc : Thread nD τ).loc main_cst) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 4).trans (array4 m c (hl c)), ((h c).1 5).trans (array5 m c (hl c)),
      ((h c).2 main_cst (Pipeline.mem_restRefs_of main_cst (by decide) (by decide))).trans (loss_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun
end
-- ==== Proof.Softmax.lean ====
/-
  The equation of the two sides on one row, as plain mathematics on real logits.

  The reference turns a row of logits into softmax scores, sorts the scores and divides the eight largest by their sum; the
  kernel sorts the logits and takes the softmax of the eight largest. A softmax is strictly increasing in its logit, so
  the two sort alike, and the factor that turns one denominator into the other cancels.
-/
module

public import proofs.«01_k».proof.Proof.Order
public import Idealize.ShloMosaic.PureOps.Ideal

@[expose] public section

noncomputable section

namespace Cert.TopRank

open Idealize.ShloMosaic

variable {n : Nat}

/-- The softmax score of lane `j`, shifted by the row's maximum. -/
def score (l : Fin n → EReal) (j : Fin n) : EReal :=
  Ideal.div (Ideal.exp (l j - Finset.univ.fold max ⊥ l)) (∑ k, Ideal.exp (l k - Finset.univ.fold max ⊥ l))

/-- A sum of reals, read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_div (a b : ℝ) (hb : b ≠ 0) : Ideal.div (a : EReal) (b : EReal) = ((a / b : ℝ) : EReal) := by
  rw [Ideal.div_coe hb, ← EReal.coe_mul, mul_one_div]

/-- On real logits the maximum is a real, and so every score is a real. -/
theorem score_eq (x : Fin n → ℝ) (hn : 0 < n) : ∃ M : ℝ, ∀ j,
    score (fun j => (x j : EReal)) j = ((Real.exp (x j - M) / ∑ k, Real.exp (x k - M) : ℝ) : EReal) := by
  obtain ⟨i, _, hi⟩ := Finset.exists_max_image Finset.univ x ⟨⟨0, hn⟩, Finset.mem_univ _⟩
  refine ⟨x i, fun j => ?_⟩
  have hM : Finset.univ.fold max ⊥ (fun j => (x j : EReal)) = (x i : EReal) :=
    fold_max_eq _ i fun k => EReal.coe_le_coe_iff.mpr (hi k (Finset.mem_univ k))
  have hS : (∑ k, Real.exp (x k - x i)) ≠ 0 :=
    (Finset.sum_pos (fun k _ => Real.exp_pos _) ⟨i, Finset.mem_univ i⟩).ne'
  unfold score
  rw [hM]
  simp only [← EReal.coe_sub, Ideal.exp_coe]
  rw [coe_sum, coe_div _ _ hS]

/-- The scores are chosen in the order of the logits. -/
theorem order_score (x : Fin n → ℝ) (hn : 0 < n) :
    order (score fun j => (x j : EReal)) = order fun j => (x j : EReal) := by
  obtain ⟨M, hM⟩ := score_eq x hn
  refine order_congr _ _ fun a b => ?_
  have hS : 0 < ∑ k, Real.exp (x k - M) := Finset.sum_pos (fun k _ => Real.exp_pos _) ⟨⟨0, hn⟩, Finset.mem_univ _⟩
  rw [hM, hM, EReal.coe_lt_coe_iff, EReal.coe_lt_coe_iff, div_lt_div_iff_of_pos_right hS, Real.exp_lt_exp]
  exact sub_lt_sub_iff_right M

/-- Chosen scores over their sum are the softmax of the chosen logits, shifted by any one of them. -/
theorem renormalise (x : Fin n → ℝ) (hn : 0 < n) {K : Nat} (σ : Fin K → Fin n) (k z : Fin K) :
    Ideal.div (score (fun j => (x j : EReal)) (σ k)) (∑ s, score (fun j => (x j : EReal)) (σ s))
      = Ideal.div (Ideal.exp ((x (σ k) : EReal) - (x (σ z) : EReal)))
          (∑ s, Ideal.exp ((x (σ s) : EReal) - (x (σ z) : EReal))) := by
  obtain ⟨M, hM⟩ := score_eq x hn
  have hS : 0 < ∑ k, Real.exp (x k - M) := Finset.sum_pos (fun k _ => Real.exp_pos _) ⟨⟨0, hn⟩, Finset.mem_univ _⟩
  have hA : 0 < ∑ s, Real.exp (x (σ s) - M) := Finset.sum_pos (fun k _ => Real.exp_pos _) ⟨k, Finset.mem_univ _⟩
  have hB : 0 < ∑ s, Real.exp (x (σ s) - x (σ z)) := Finset.sum_pos (fun k _ => Real.exp_pos _) ⟨k, Finset.mem_univ _⟩
  simp only [hM, ← EReal.coe_sub, Ideal.exp_coe, coe_sum]
  have hA' : 0 < ∑ s, Real.exp (x (σ s) - M) / ∑ k, Real.exp (x k - M) := by
    rw [← Finset.sum_div]
    exact div_pos hA hS
  rw [coe_div _ _ hA'.ne', coe_div _ _ hB.ne', ← Finset.sum_div, div_div_div_cancel_right₀ hS.ne']
  have e (s : Fin K) : Real.exp (x (σ s) - M) = Real.exp (x (σ s) - x (σ z)) * Real.exp (x (σ z) - M) := by
    rw [← Real.exp_add]
    congr 1
    ring
  rw [e k, Finset.sum_congr rfl fun s _ => e s, ← Finset.sum_mul, mul_div_mul_right _ _ (Real.exp_pos _).ne']

end Cert.TopRank

end
-- ==== Proof.RefValue.lean ====
/-
  What the reference computes, read at a row and a column.

  The logits of a row are its inner products with the rows of the gate; the scores are the softmax of the row; the eight
  chosen experts are the first eight positions of the row sorted by score, and the weights are their scores over
  the scores' sum.
-/
module
public import proofs.«01_k».proof.Proof.Gen.ReferenceIdeal.Run
public import proofs.«01_k».proof.Proof.Softmax
public import Idealize.ShloMosaic.Lib.Pointwise
@[expose] public section
set_option maxRecDepth 16384
noncomputable section
namespace Cert.ReferenceIdeal.RefValue
open Cert.ReferenceIdeal Cert.ReferenceIdeal.Gen Idealize.ShloMosaic Idealize.ShloMosaic.TcCoe Idealize.SL.Sem Cert.TopRank

/-- The logits of every row. -/
def logits (x : FVec Ideal S4x4096x2048 .f32) (w : FVec Ideal S64x2048 .f32) : FVec Ideal S16384x64 .f32 :=
  Host.dotGeneral (F := Ideal) dot_S16384x2048_S2048x64_S16384x64_1_0_0_1_n_n none
    (shapeCast S16384x2048 x shapeCasts_S4x4096x2048_S16384x2048)
    (transpose S2048x64 [1, 0] w transposes_S64x2048_S2048x64_1_0)

/-- The maximum of every row. -/
def rowMax (L : FVec Ideal S16384x64 .f32) : FVec Ideal S16384 .f32 :=
  Host.reduce FloatOps.maximumf L (constant S_ .f32 0xFF800000#32) reducesTo_S16384x64_S16384_d1 h_S_

/-- A column of row values along the lanes. -/
def spread (v : FVec Ideal S16384 .f32) : FVec Ideal S16384x64 .f32 :=
  broadcastInDim S16384x64 ![0, 1] bcast_S16384x1_S16384x64_0_1 (broadcastInDim S16384x1 ![0] bcast_S16384_S16384x1_0 v)

/-- A column against minus infinity: the column. -/
def floored (v : FVec Ideal S16384 .f32) : FVec Ideal S16384 .f32 :=
  maximumf (broadcastInDim S16384 ![] bcast_S_S16384 (constant S_ .f32 0xFF800000#32)) v

/-- The exponentials of every row, shifted by a column. -/
def expo (L : FVec Ideal S16384x64 .f32) (v : FVec Ideal S16384 .f32) : FVec Ideal S16384x64 .f32 :=
  Host.exp (subf L (spread v))

/-- The sum of every row. -/
def rowSum (e : FVec Ideal S16384x64 .f32) : FVec Ideal S16384 .f32 :=
  Host.reduceAdd e (constant S_ .f32 0x00000000#32) reducesTo_S16384x64_S16384_d1 h_S_

/-- Every row over a column. -/
def over (e : FVec Ideal S16384x64 .f32) (v : FVec Ideal S16384 .f32) : FVec Ideal S16384x64 .f32 :=
  Host.divf e (spread v)

/-- The softmax of every row. -/
def scores (L : FVec Ideal S16384x64 .f32) : FVec Ideal S16384x64 .f32 :=
  over (expo L (floored (rowMax L))) (rowSum (expo L (floored (rowMax L))))

/-- The eight largest scores of each row, and where they stand. -/
def top (L : FVec Ideal S16384x64 .f32) : FVec Ideal S16384x8 .f32 × IVec S16384x8 32 :=
  Host.topK S16384x8 1 (FloatOps.cmpfTotal .gt) (scores L) sliceFits_S16384x64_S16384x8

/-- The eight largest scores of each row over their sum. -/
def weights (L : FVec Ideal S16384x64 .f32) : FVec Ideal S16384x8 .f32 :=
  Host.divf (top L).1 (broadcastInDim S16384x8 ![0, 1] bcast_S16384x1_S16384x8_0_1
    (broadcastInDim S16384x1 ![0] bcast_S16384_S16384x1_0
      (Host.reduceAdd (top L).1 (constant S_ .f32 0x00000000#32) reducesTo_S16384x8_S16384_d1 h_S_)))

theorem logits_apply (x : FVec Ideal S4x4096x2048 .f32) (w : FVec Ideal S64x2048 .f32) (r : Fin 16384) (j : Fin 64) :
    logits x w (ix2 r j)
      = ∑ k : Fin 2048, x (ix3 ⟨r.val / 4096, by omega⟩ ⟨r.val % 4096, by omega⟩ k) * w (ix2 j k) := by
  pointwise [logits]

theorem ofBits_neg_inf : Ideal.ofBits .f32 0xFF800000#32 = ⊥ := by
  simp [Ideal.ofBits, Ideal.ieee]

/-- A row of the logits. -/
def row (L : FVec Ideal S16384x64 .f32) (r : Fin 16384) (j : Fin 64) : EReal := L (ix2 r j)

theorem rowMax_apply (L : FVec Ideal S16384x64 .f32) (r : Fin 16384) :
    rowMax L (ix1 r) = Finset.univ.fold max ⊥ (row L r) := by
  pointwise [rowMax]
  rw [ofBits_neg_inf]
  rfl

theorem floored_apply (v : FVec Ideal S16384 .f32) (r : Fin 16384) : floored v (ix1 r) = v (ix1 r) := by
  pointwise [floored]
  rw [ofBits_neg_inf, max_eq_right bot_le]

theorem expo_apply (L : FVec Ideal S16384x64 .f32) (v : FVec Ideal S16384 .f32) (r : Fin 16384) (j : Fin 64) :
    expo L v (ix2 r j) = Ideal.exp (L (ix2 r j) - v (ix1 r)) := by
  pointwise [expo, spread]

theorem rowSum_apply (e : FVec Ideal S16384x64 .f32) (r : Fin 16384) :
    rowSum e (ix1 r) = ∑ j : Fin 64, e (ix2 r j) := by
  pointwise [rowSum]

theorem over_apply (e : FVec Ideal S16384x64 .f32) (v : FVec Ideal S16384 .f32) (r : Fin 16384) (j : Fin 64) :
    over e v (ix2 r j) = Ideal.div (e (ix2 r j)) (v (ix1 r)) := by
  pointwise [over, spread]

theorem scores_apply (L : FVec Ideal S16384x64 .f32) (r : Fin 16384) (j : Fin 64) :
    scores L (ix2 r j) = score (row L r) j := by
  unfold scores
  rw [over_apply, rowSum_apply]
  simp only [expo_apply, floored_apply, rowMax_apply]
  rfl

theorem along_ix2 (r : Fin 16384) (j k : Fin 64) :
    Shape.Idx.along (s := S16384x64) (ix2 r j) 1 k = ix2 r k := by
  funext a
  fin_cases a <;> rfl

/-- The position along a row that the stable descending sort puts at each place. -/
theorem sorted_row (S : FVec Ideal S16384x64 .f32) (r : Fin 16384) :
    (sortedFrom fun a b : Fin 64 => FloatOps.cmpfTotal CmpDirection.gt (S (ix2 r a)) (S (ix2 r b)) == 1#1) = order (row S r) := by
  unfold order
  congr 1
  funext a b
  unfold larger row
  show (Ideal.cmpTotal CmpDirection.gt (S (ix2 r a)) (S (ix2 r b)) == 1#1) = _
  simp only [Ideal.cmpTotal, Ideal.cmp, CmpDirection.ordered]
  by_cases h : S (ix2 r b) < S (ix2 r a) <;> simp [h]

theorem slice_index (h : S16384x64.Slices (fun _ => 0) S16384x8) (r : Fin 16384) (k : Fin 8) :
    (fun a : Fin S16384x64.rank => (⟨0 + ((ix2 r k : S16384x8.Idx) (a.cast h.1.symm)).val,
      Nat.lt_of_lt_of_le (Nat.add_lt_add_left ((ix2 r k : S16384x8.Idx) _).isLt _) (h.2 a)⟩ : Fin (S16384x64.size a)))
      = ix2 r ⟨k.val, by omega⟩ := by
  funext a
  fin_cases a <;> exact Fin.ext (Nat.zero_add _)

/-- The first result of the stable sort of a row by descending value, and the second, which carries the positions. -/
theorem sort_apply (S : FVec Ideal S16384x64 .f32) (p : IVec S16384x64 32) (r : Fin 16384) (j : Fin 64) :
    (Host.sort2 S16384x64 1 (fun a b => FloatOps.cmpfTotal CmpDirection.gt a.1 b.1) S p).1 (ix2 r j)
        = S (ix2 r (order (row S r) j))
    ∧ (Host.sort2 S16384x64 1 (fun a b => FloatOps.cmpfTotal CmpDirection.gt a.1 b.1) S p).2 (ix2 r j)
        = p (ix2 r (order (row S r) j)) := by
  have hs : sortedFrom (fun a b : Fin 64 => FloatOps.cmpfTotal CmpDirection.gt
      (S (Shape.Idx.along (s := S16384x64) (ix2 r j) 1 a)) (S (Shape.Idx.along (s := S16384x64) (ix2 r j) 1 b)) == 1#1)
      = order (row S r) := by
    simp only [along_ix2]
    exact sorted_row S r
  have hk := (congrArg (Shape.Idx.along (s := S16384x64) (ix2 r j) 1) (congrFun hs j)).trans (along_ix2 r j _)
  exact ⟨congrArg S hk, congrArg p hk⟩

/-- The lane number of every element. -/
def positions : IVec S16384x64 32 := fun i => if hd : 1 < S16384x64.rank then iotaInDim S16384x64 32 ⟨1, hd⟩ i else 0#32

/-- The first eight lanes of an array of rows. -/
theorem slice_apply {α : Type} (h : S16384x64.Slices (fun _ => 0) S16384x8) (v : S16384x64.Idx → α) (r : Fin 16384) (k : Fin 8) :
    extractStridedSlice S16384x8 (fun _ => 0) v h (ix2 r k) = v (ix2 r ⟨k.val, by omega⟩) :=
  congrArg v (slice_index h r k)

theorem topK_apply (S : FVec Ideal S16384x64 .f32) (h) (r : Fin 16384) (k : Fin 8) :
    (Host.topK S16384x8 1 (FloatOps.cmpfTotal CmpDirection.gt) S h).1 (ix2 r k)
        = S (ix2 r (order (row S r) ⟨k.val, by omega⟩))
    ∧ (Host.topK S16384x8 1 (FloatOps.cmpfTotal CmpDirection.gt) S h).2 (ix2 r k)
        = BitVec.ofNat 32 (order (row S r) ⟨k.val, by omega⟩).val := by
  exact ⟨(slice_apply h _ r k).trans (sort_apply S positions r _).1, (slice_apply h _ r k).trans (sort_apply S positions r _).2⟩

/-- A row's chosen scores are the scores of its chosen logits. -/
theorem row_scores (L : FVec Ideal S16384x64 .f32) (r : Fin 16384) : row (scores L) r = score (row L r) :=
  funext fun j => scores_apply L r j

theorem top_apply (L : FVec Ideal S16384x64 .f32) (r : Fin 16384) (k : Fin 8) :
    (top L).1 (ix2 r k) = score (row L r) (order (score (row L r)) ⟨k.val, by omega⟩)
    ∧ (top L).2 (ix2 r k) = BitVec.ofNat 32 (order (score (row L r)) ⟨k.val, by omega⟩).val := by
  rw [← row_scores]
  exact topK_apply (scores L) sliceFits_S16384x64_S16384x8 r k

/-- Every row of eight over its sum. -/
def overSum (t : FVec Ideal S16384x8 .f32) : FVec Ideal S16384x8 .f32 :=
  Host.divf t (broadcastInDim S16384x8 ![0, 1] bcast_S16384x1_S16384x8_0_1
    (broadcastInDim S16384x1 ![0] bcast_S16384_S16384x1_0
      (Host.reduceAdd t (constant S_ .f32 0x00000000#32) reducesTo_S16384x8_S16384_d1 h_S_)))

theorem overSum_apply (t : FVec Ideal S16384x8 .f32) (r : Fin 16384) (k : Fin 8) :
    overSum t (ix2 r k) = Ideal.div (t (ix2 r k)) (∑ s : Fin 8, t (ix2 r s)) := by
  pointwise [overSum]

theorem weights_apply (L : FVec Ideal S16384x64 .f32) (r : Fin 16384) (k : Fin 8) :
    weights L (ix2 r k) = Ideal.div ((top L).1 (ix2 r k)) (∑ s : Fin 8, (top L).1 (ix2 r s)) :=
  overSum_apply (top L).1 r k

end Cert.ReferenceIdeal.RefValue
end
-- ==== Proof.RefRun.lean ====
/-
  The reference's run, with its results as the arrays of `RefValue`.
-/
module
public import proofs.«01_k».proof.Proof.RefValue
@[expose] public section
set_option maxRecDepth 16384
noncomputable section
namespace Cert.ReferenceIdeal.RefValue
open Cert.ReferenceIdeal Cert.ReferenceIdeal.Gen Idealize.ShloMosaic Idealize.ShloMosaic.TcCoe Idealize.SL.Sem Cert.TopRank

/-- The reference's run: what its three results hold at the end, and that its arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_indices)
        = (top (logits (m ((c.tc : Thread nD τ).loc main_arg0)) (m ((c.tc : Thread nD τ).loc main_arg1)))).2
      ∧ r.2.mem ((c.tc : Thread nD τ).loc main_v17)
        = weights (logits (m ((c.tc : Thread nD τ).loc main_arg0)) (m ((c.tc : Thread nD τ).loc main_arg1)))
      ∧ r.2.mem ((c.tc : Thread nD τ).loc main_cst_3) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Cert.ReferenceIdeal.RefValue
end
-- ==== Proof.Equation.lean ====
/-
  The kernel's result arrays are the reference's, for real arguments: the order of the scores is the order of the
  logits, and the reference's weights, renormalised over the eight places, are the kernel's.
-/
module
public import proofs.«01_k».proof.Proof.KernelArray
public import proofs.«01_k».proof.Proof.RefValue
@[expose] public section
set_option maxRecDepth 16384
noncomputable section
namespace Cert.Proof.Equation
open Idealize.ShloMosaic Cert.TopRank
open Cert.KernelIdeal.Reads Cert.KernelIdeal.KernelArray Cert.KernelIdeal.Block
open Cert.ReferenceIdeal (S4x4096x2048 S64x2048 S16384x64 S16384x8)
open Cert.ReferenceIdeal.RefValue (top weights row top_apply weights_apply)

/-- The logits of a token with real features and a real gate are real. -/
theorem tokenRow_real (x : FVec Ideal S4x4096x2048 .f32) (w : FVec Ideal S64x2048 .f32)
    (hx : ∀ i, ∃ a : ℝ, x i = (a : EReal)) (hw : ∀ i, ∃ a : ℝ, w i = (a : EReal)) (R : Fin 16384) :
    ∃ l : Fin 64 → ℝ, tokenRow x w R = fun j => (l j : EReal) := by
  choose a ha using hx
  choose b hb using hw
  refine ⟨fun j => ∑ k : Fin 2048, a (ix3 ⟨R.val / 4096, by omega⟩ ⟨R.val % 4096, by omega⟩ k) * b (ix2 j k), ?_⟩
  funext j
  rw [← coe_sum]
  refine Finset.sum_congr rfl fun k _ => ?_
  rw [EReal.coe_mul]
  exact congrArg₂ (· * ·) (ha _) (hb _)

theorem row_logits (x : FVec Ideal S4x4096x2048 .f32) (w : FVec Ideal S64x2048 .f32) (R : Fin 16384) :
    row (Cert.ReferenceIdeal.RefValue.logits x w) R = tokenRow x w R :=
  funext fun j => Cert.ReferenceIdeal.RefValue.logits_apply x w R j

/-- The experts of one token. -/
theorem experts_row (L : FVec Ideal S16384x64 .f32) (R : Fin 16384) (l : Fin 64 → ℝ)
    (h : row L R = fun j => (l j : EReal)) (k : Fin 8) :
    (top L).2 (ix2 R k) = BitVec.ofNat 32 (choice (row L R) k).val := by
  refine (top_apply L R k).2.trans ?_
  rw [h, order_score l (by decide)]
  rfl

/-- The weights of one token. -/
theorem weights_row (L : FVec Ideal S16384x64 .f32) (R : Fin 16384) (l : Fin 64 → ℝ)
    (h : row L R = fun j => (l j : EReal)) (k : Fin 8) :
    weights L (ix2 R k) = Ideal.div (Ideal.exp (row L R (choice (row L R) k) - row L R (choice (row L R) 0)))
      (∑ s : Fin 8, Ideal.exp (row L R (choice (row L R) s) - row L R (choice (row L R) 0))) := by
  have ht : ∀ s : Fin 8, (top L).1 (ix2 R s) = score (fun j => (l j : EReal)) (choice (fun j => (l j : EReal)) s) :=
    fun s => by
      refine (top_apply L R s).1.trans ?_
      rw [h, order_score l (by decide)]
      rfl
  refine (weights_apply L R k).trans ?_
  rw [h]
  refine (congrArg₂ Ideal.div (ht k) (Finset.sum_congr rfl fun s _ => ht s)).trans ?_
  exact renormalise l (by decide) (choice fun j => (l j : EReal)) k 0

variable (x : FVec Ideal S4x4096x2048 .f32) (w : FVec Ideal S64x2048 .f32)
  (hx : ∀ i, ∃ a : ℝ, x i = (a : EReal)) (hw : ∀ i, ∃ a : ℝ, w i = (a : EReal))

include hx hw

theorem tokenRow_ne_bot (R : Fin 16384) (j : Fin 64) : tokenRow x w R j ≠ ⊥ := by
  obtain ⟨l, hl⟩ := tokenRow_real x w hx hw R
  rw [hl]
  exact EReal.coe_ne_bot _

/-- The index arrays are equal. -/
theorem experts_eq : (top (Cert.ReferenceIdeal.RefValue.logits x w)).2 = expertOf (tokenRow x w) := by
  funext i
  obtain ⟨R, k, rfl⟩ : ∃ (R : Fin 16384) (k : Fin 8), i = (ix2 R k : S16384x8.Idx) := ⟨i 0, i 1, eq_ix2 i⟩
  obtain ⟨l, hl⟩ := tokenRow_real x w hx hw R
  refine (experts_row _ R l ((row_logits x w R).trans hl) k).trans ?_
  rw [row_logits]
  rfl

/-- The weight arrays are equal. -/
theorem weights_eq : weights (Cert.ReferenceIdeal.RefValue.logits x w) = weightOf (tokenRow x w) := by
  funext i
  obtain ⟨R, k, rfl⟩ : ∃ (R : Fin 16384) (k : Fin 8), i = (ix2 R k : S16384x8.Idx) := ⟨i 0, i 1, eq_ix2 i⟩
  obtain ⟨l, hl⟩ := tokenRow_real x w hx hw R
  refine (weights_row _ R l ((row_logits x w R).trans hl) k).trans ?_
  rw [row_logits]
  rfl

end Cert.Proof.Equation
end
-- ==== Proof.Finite.lean ====
/-
  What the precondition says: every element of both arguments is a real number.
-/
module
public import proofs.«01_k».proof.Pre_finite
public import Idealize.ShloMosaic.Lib.ReduceAll
public import Idealize.ShloMosaic.Lib.Pointwise
public import Idealize.ShloMosaic.Lib.WordCmp
@[expose] public section
set_option maxRecDepth 16384
noncomputable section
namespace Cert.Pre_finite
open Idealize.ShloMosaic

/-- The side conditions of the precondition's operations. -/
theorem facts : Facts where
  bcast_S_S4x4096x2048 := by decide +kernel
  reducesTo_S4x4096x2048_S_d0_1_2 := by decide +kernel
  h_S_ := by decide +kernel
  bcast_S_S64x2048 := by decide +kernel
  reducesTo_S64x2048_S_d0_1 := by decide +kernel

variable [Facts]

/-- An extended real below plus infinity in absolute value is a real number. -/
theorem real_of_abs_lt (x : EReal) (h : max x (-x) < ⊤) : ∃ a : ℝ, x = (a : EReal) := by
  induction x with
  | bot => simp at h
  | top => simp at h
  | coe a => exact ⟨a, rfl⟩

theorem infinity : Ideal.ofBits .f32 0x7F800000#32 = ⊤ := by
  simp [Ideal.ofBits, Ideal.ieee]

/-- A comparison that came out 1. -/
theorem lt_of_cmp (a b : Ideal .f32) (h : FloatOps.cmpf (F := Ideal) (φ := .f32) .olt a b = 1#1) :
    (a : EReal) < (b : EReal) :=
  of_decide_eq_true ((WordCmp.ofBool_eq_one_iff _).1 h)

theorem tokens_real (x : FVec Ideal S4x4096x2048 .f32) (w : FVec Ideal S64x2048 .f32)
    (h : (fn (F := Ideal) x w).1 = fun _ => 1#1) (i : S4x4096x2048.Idx) : ∃ a : ℝ, x i = (a : EReal) := by
  have e := congrFun h (fun a => a.elim0)
  dsimp only [fn] at e
  haveI : Subsingleton S_.Idx := ⟨fun a b => funext fun k => k.elim0⟩
  have hi := Host.reduce_andi_all _ _ _ _ _ e i
  clear e h
  apply real_of_abs_lt
  exact (lt_of_cmp _ _ hi).trans_eq infinity

theorem gate_real (x : FVec Ideal S4x4096x2048 .f32) (w : FVec Ideal S64x2048 .f32)
    (h : (fn (F := Ideal) x w).2 = fun _ => 1#1) (i : S64x2048.Idx) : ∃ a : ℝ, w i = (a : EReal) := by
  have e := congrFun h (fun a => a.elim0)
  dsimp only [fn] at e
  haveI : Subsingleton S_.Idx := ⟨fun a b => funext fun k => k.elim0⟩
  have hi := Host.reduce_andi_all _ _ _ _ _ e i
  clear e h
  apply real_of_abs_lt
  exact (lt_of_cmp _ _ hi).trans_eq infinity

end Cert.Pre_finite
end
-- ==== Proof.lean ====
/- The certificate: the kernel, its idealization and the reference run and leave their arguments alone; the idealization is
   the program's own text; and, on real arguments, the idealized kernel and the reference end with equal results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import proofs.«01_k».proof.Proof.Equation
public import proofs.«01_k».proof.Proof.Finite
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The kernel as compiled: its run leaves the arguments and every counter as they were. -/
theorem kernel_frame : Cert.quiescent_Kernel (hKernel := Cert.Kernel.Gen.facts) :=
  fun m g _ => Cert.Kernel.Gen.frame m g

/-- The idealized kernel's run does too. -/
theorem ideal_frame : Cert.quiescent_KernelIdeal (hKernelIdeal := Cert.KernelIdeal.Gen.facts) :=
  fun m g _ => Cert.KernelIdeal.Gen.frame m g

/-- And the reference's. -/
theorem reference_frame : Cert.quiescent_ReferenceIdeal (hReferenceIdeal := Cert.ReferenceIdeal.Gen.facts) :=
  fun m g _ => (θ_run Cert.ReferenceIdeal.defs _ _).mono
    (fun r h => ⟨fun c => (h c).2.2.2, sem_eq_zero_of_no_sems (by decide) r.2⟩) (Cert.ReferenceIdeal.RefValue.run m g)

/-- On real arguments the idealized kernel and the reference end with equal results. -/
theorem equal_results : Cert.algebraic_KernelIdeal_ReferenceIdeal_pre_finite
    (hKernelIdeal := Cert.KernelIdeal.Gen.facts) (hReferenceIdeal := Cert.ReferenceIdeal.Gen.facts)
    (hPre_finite := Cert.Pre_finite.facts) := by
  intro m g m' g' hpre hargs
  haveI := Cert.Pre_finite.facts
  have hx := fun c => Cert.Pre_finite.tokens_real _ _ (hpre c).1
  have hw := fun c => Cert.Pre_finite.gate_real _ _ (hpre c).2
  refine ⟨_, _, _, Cert.KernelIdeal.KernelRun.run m g fun c R j => Equation.tokenRow_ne_bot _ _ (hx c) (hw c) R j, ?_⟩
  refine (θ_run Cert.ReferenceIdeal.defs _ _).mono (fun r h c => ?_) (Cert.ReferenceIdeal.RefValue.run m' g')
  obtain ⟨h0, h1, h2, h3, h4⟩ := h c
  rw [(hargs c).1, (hargs c).2] at h0 h1
  exact ⟨h0.trans (Equation.experts_eq _ _ (hx c) (hw c)), h1.trans (Equation.weights_eq _ _ (hx c) (hw c)), h2, h3, h4⟩

theorem claim : Cert.Claim :=
  ⟨Cert.Kernel.Gen.facts, Cert.KernelIdeal.Gen.facts, Cert.ReferenceIdeal.Gen.facts, Cert.Pre_finite.facts,
    kernel_frame, ideal_frame, fun m g _ => ideal_frame m g trivial, reference_frame,
    fun m g _ => reference_frame m g trivial, trivial, equal_results⟩

end Cert.Proof

end
